-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x4096 : Shape := ⟨2, ![8192, 4096]⟩
abbrev S4608x4096 : Shape := ⟨2, ![4608, 4096]⟩
abbrev S512x4096 : Shape := ⟨2, ![512, 4096]⟩
abbrev S3584x4096 : Shape := ⟨2, ![3584, 4096]⟩
abbrev S2x8x4096 : Shape := ⟨3, ![2, 8, 4096]⟩
abbrev S2 : Shape := ⟨1, ![2]⟩
abbrev S1x8x4096 : Shape := ⟨3, ![1, 8, 4096]⟩
abbrev S8x4096 : Shape := ⟨2, ![8, 4096]⟩
abbrev S1 : Shape := ⟨1, ![1]⟩
abbrev S_ : Shape := ⟨0, ![]⟩

abbrev nBuf : Table → Nat
  | .hbm => 4
  | .local .tc .vmem => 4
  | .local .scVector .vmem => 1
  | _ => 0

abbrev bufTy : (tb : Table) → Fin (nBuf tb) → BufTy
  | .hbm, ⟨0, _⟩ => ⟨S8192x4096, .f32⟩
  | .hbm, ⟨1, _⟩ => ⟨S4608x4096, .f32⟩
  | .hbm, ⟨2, _⟩ => ⟨S3584x4096, .f32⟩
  | .hbm, ⟨3, _⟩ => ⟨S8192x4096, .f32⟩
  | .local .tc .vmem, ⟨0, _⟩ => ⟨S512x4096, .f32⟩
  | .local .tc .vmem, ⟨1, _⟩ => ⟨S512x4096, .f32⟩
  | .local .tc .vmem, ⟨2, _⟩ => ⟨S512x4096, .f32⟩
  | .local .tc .vmem, ⟨3, _⟩ => ⟨S512x4096, .f32⟩
  | .local .scVector .vmem, ⟨0, _⟩ => ⟨S2x8x4096, .f32⟩
  | _, _ => ⟨S8192x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_arg0_scv : Ref sig .scVector := ⟨.hbm, 0, rfl⟩
abbrev main_v1_scv : Ref sig .scVector := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) (c0_i32 : BitVec 32) : Fin 2 → Nat :=
  let c4608_i32 : BitVec 32 := 4608#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c112_i32 : BitVec 32 := 112#32
  let v2 : BitVec 32 := Scalar.muli v1 c112_i32
  let v3 : BitVec 32 := Scalar.addi c4608_i32 v2
  let v4 : BitVec 32 := Scalar.addi v3 c0_i32
  let c0_i32_4 : BitVec 32 := 0#32
  ![v4.toNat, 0]
def k1_off2 (i : grid1.Coords) (c0_i32_26 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c112_i32 : BitVec 32 := 112#32
  let v2 : BitVec 32 := Scalar.muli v1 c112_i32
  let v33 : BitVec 32 := Scalar.addi v2 c0_i32_26
  let c0_i32_31 : BitVec 32 := 0#32
  ![v33.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x4096 : Shape := ⟨2, ![8192, 4096]⟩

abbrev nBuf : Space → Nat
  | .hbm => 1
  | .vmem => 0
  | .smem => 0
  | _ => 0

abbrev bufTy : (tb : Table) → Fin (tcTables nBuf tb) → BufTy
  | .hbm, ⟨0, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Tile.lean ====
/-
  One vector subcore's task, run: its 112 rows move from the argument to the partial result eight rows at a
  time, through the two halves of its buffer.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.ValueKit.Geometry
public import Idealize.ShloMosaic.Lib.Tactic
public import proofs.«01_k».proof.Proof.Gen.Kernel
public import proofs.«01_k».proof.Proof.Gen.Kernel.Skeleton

@[expose] public section

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift

/-- The handshakes' rounds, the staging buffers' rounds, the transfers' counters. -/
abbrev UH : Type := URounds (GSem nD τ sig) ℕ
abbrev UU : Type := UH × (URounds (GSem nD τ sig) Unit × Counters)

local notation "𝕄" => MT nD τ sig (HIx 1) (Elt F) ℕ UU ℕ

variable (m : (ℓ : Loc nD τ sig) → Buf (Elt F) ℓ)

/-- The argument and the SparseCores' partial result, as locations of device `d`. -/
abbrev xLoc (d : Dev nD) : Loc nD τ sig := (SparseCore.T d).loc main_arg0
abbrev oLoc (d : Dev nD) : Loc nD τ sig := (SparseCore.T d).loc main_v1

local notation "xV" => (Memref.whole Cert.Kernel.main_arg0_scv : Memref Cert.Kernel.sig Kind.scVector Space.hbm Cert.Kernel.S8192x4096 EltTy.f32)
local notation "oV" => (Memref.whole Cert.Kernel.main_v1_scv : Memref Cert.Kernel.sig Kind.scVector Space.hbm Cert.Kernel.S3584x4096 EltTy.f32)
local notation "bV" => (Memref.whole Cert.Kernel.cc1_scratch0 : Memref Cert.Kernel.sig Kind.scVector Space.vmem Cert.Kernel.S2x8x4096 EltTy.f32)

section Tile

variable (d : Dev nD) (L : grid1.Coords)

abbrev cV (L : grid1.Coords) : Fin τ.nSC := (L 0).castLE hcore1
abbrev jV (L : grid1.Coords) : Fin τ.nSub := (L 1).castLE hsub1

/-- Eight rows of the argument, of the partial result, at the task's row plus `b`. -/
abbrev xCh (b : BitVec 32) (h : ∀ a, k1_off1 L b a + S8x4096.size a ≤ S8192x4096.size a) : Memref sig .scVector .hbm S8x4096 .f32 :=
  (xV).slice (Rect.unit (s := S8192x4096) (k1_off1 L b) S8x4096.size h) (fun _ => rfl)
abbrev oCh (b : BitVec 32) (h : ∀ a, k1_off2 L b a + S8x4096.size a ≤ S3584x4096.size a) : Memref sig .scVector .hbm S8x4096 .f32 :=
  (oV).slice (Rect.unit (s := S3584x4096) (k1_off2 L b) S8x4096.size h) (fun _ => rfl)

/-- The two halves of the buffer. -/
abbrev sl0 : Memref sig .scVector .vmem S8x4096 .f32 :=
  ((bV).slice (Rect.unit (s := S2x8x4096) ![0, 0, 0] S1x8x4096.size inb_S2x8x4096_S1x8x4096_0_0_0) (fun _ => rfl)).squeeze S8x4096 squeezes_S1x8x4096_S8x4096
abbrev sl1 : Memref sig .scVector .vmem S8x4096 .f32 :=
  ((bV).slice (Rect.unit (s := S2x8x4096) ![1, 0, 0] S1x8x4096.size inb_S2x8x4096_S1x8x4096_1_0_0) (fun _ => rfl)).squeeze S8x4096 squeezes_S1x8x4096_S8x4096

/-- The four cells the task waits on: the two halves' in, the two halves' out. -/
abbrev semI0 : DmaSem sig := ((cc1_scratch1.slice (Rect.unit (s := S2) ![0] S1.size inb_S2_S1_0)).squeeze S_ squeezes_S1_S_).sem
abbrev semI1 : DmaSem sig := ((cc1_scratch1.slice (Rect.unit (s := S2) ![1] S1.size inb_S2_S1_1)).squeeze S_ squeezes_S1_S_).sem
abbrev semO0 : DmaSem sig := ((cc1_scratch2.slice (Rect.unit (s := S2) ![0] S1.size inb_S2_S1_0)).squeeze S_ squeezes_S1_S_).sem
abbrev semO1 : DmaSem sig := ((cc1_scratch2.slice (Rect.unit (s := S2) ![1] S1.size inb_S2_S1_1)).squeeze S_ squeezes_S1_S_).sem

abbrev xP (b : BitVec 32) (h : ∀ a, k1_off1 L b a + S8x4096.size a ≤ S8192x4096.size a) : sProp 𝕄 :=
  (xCh L b h).view.loc (V d (cV L) (jV L)) ↦[(xCh L b h).view.set]{fullShare} m (xLoc d)
abbrev oP (b : BitVec 32) (h : ∀ a, k1_off2 L b a + S8x4096.size a ≤ S3584x4096.size a) (f : Buf (Elt F) (oLoc d)) : sProp 𝕄 :=
  (oCh L b h).view.loc (V d (cV L) (jV L)) ↦[(oCh L b h).view.set]{fullShare} f

/-! ## What the copies leave -/

/-- The row of the argument that row `i 0` of the partial result shows: 4608 further down. -/
abbrev below (i : S3584x4096.Idx) : S8192x4096.Idx := fun a => match a with
  | 0 => (⟨(i 0).val + 4608, by have := (i 0).isLt; change _ < 3584 at this; change _ < 8192; omega⟩ : Fin 8192)
  | 1 => (⟨(i 1).val, (i 1).isLt⟩ : Fin 4096)

/-- The partial result once copied: the argument's rows from 4608 on. -/
abbrev copied (d : Dev nD) : Buf (Elt F) (oLoc d) := fun i => m (xLoc d) (below i)

theorem emb_below (r : Fin 14) (j : S8x4096.Idx) :
    (xCh L (BitVec.ofNat 32 (8 * r.val)) (k1_off1_inb L r)).view.emb j = below ((oCh L (BitVec.ofNat 32 (8 * r.val)) (k1_off2_inb L r)).view.emb j) := by
  have hx := congrFun (k1_off1_eq L r)
  have ho := congrFun (k1_off2_eq L r)
  have ex : ∀ a : Fin 2, ((xCh L (BitVec.ofNat 32 (8 * r.val)) (k1_off1_inb L r)).view.emb j a).val = k1_off1 L (BitVec.ofNat 32 (8 * r.val)) a + (j a).val :=
    ValueKit.rect_emb_unit_val (s := S8192x4096) (k1_off1 L (BitVec.ofNat 32 (8 * r.val))) S8x4096.size (k1_off1_inb L r) j
  have eo : ∀ a : Fin 2, ((oCh L (BitVec.ofNat 32 (8 * r.val)) (k1_off2_inb L r)).view.emb j a).val = k1_off2 L (BitVec.ofNat 32 (8 * r.val)) a + (j a).val :=
    ValueKit.rect_emb_unit_val (s := S3584x4096) (k1_off2 L (BitVec.ofNat 32 (8 * r.val))) S8x4096.size (k1_off2_inb L r) j
  funext a; apply Fin.ext
  match a with
  | 0 =>
    refine (ex 0).trans (Eq.trans ?_ (congrArg (· + 4608) (eo 0)).symm)
    rw [hx 0, ho 0]; simp; omega
  | 1 =>
    refine (ex 1).trans (Eq.trans ?_ (eo 1).symm)
    rw [hx 1, ho 1]; simp

/-- One view written whole with what another reads has, at an index of it, the other's element. -/
theorem writes_read_heq {κ κ' : Kind} {sp sp' : Space} {s : Shape} {e : EltTy} (v : View sig κ sp s e) (u : View sig κ' sp' s e)
    (f : v.ty.Contents (Elt F)) (g : u.ty.Contents (Elt F)) (j : s.Idx) :
    HEq (v.writes (Elt F) f [⟨Rect.whole s, u.read (Elt F) g⟩] (v.emb j)) (g (u.emb j)) := by
  have h := congrFun (View.read_writes_whole (Val := Elt F) v f (u.read (Elt F) g)) j
  rw [View.read_apply, View.read_apply] at h
  exact ((cast_heq _ _).symm.trans (heq_of_eq h)).trans (cast_heq _ _)

/-- Eight rows of the partial result written with the same eight rows of the argument are `copied` there. -/
theorem oP_copied (r : Fin 14) (w : S8x4096.Idx → Elt F .f32)
    (hw : w = (xCh L (BitVec.ofNat 32 (8 * r.val)) (k1_off1_inb L r)).view.read (Elt F) (m (xLoc d))) :
    oP d L (BitVec.ofNat 32 (8 * r.val)) (k1_off2_inb L r)
        ((oCh L (BitVec.ofNat 32 (8 * r.val)) (k1_off2_inb L r)).view.writes (Elt F) (m (oLoc d)) [⟨Rect.whole S8x4096, w⟩])
      = oP d L (BitVec.ofNat 32 (8 * r.val)) (k1_off2_inb L r) (copied m d) := by
  refine pointsTo_congr fun i hi => ?_
  obtain ⟨j, -, rfl⟩ := Finset.mem_map.mp hi
  subst hw
  exact eq_of_heq ((writes_read_heq (F := F) _ _ _ _ j).trans (heq_of_eq (congrArg (m (xLoc d)) (emb_below L r j))))

/-- Half a buffer just written reads back what was written. -/
theorem slot_read (v : Memref sig .scVector .vmem S8x4096 .f32) (f) (w : S8x4096.Idx → Elt F .f32) (l) :
    ReadAs.same.apply (v.view.read (Elt F) (v.view.writes (Elt F) f (⟨Rect.whole S8x4096, w⟩ :: l))) = w := by
  funext y
  have h := View.read_writes_cons_emb (Val := Elt F) v.view f (Rect.whole S8x4096) w l y
  rw [Rect.emb_whole_apply] at h
  exact h

/-- All the task's rows of the argument, of the partial result. -/
abbrev xAll : sProp 𝕄 := bigSep Finset.univ fun r : Fin 14 => xP m d L (BitVec.ofNat 32 (8 * r.val)) (k1_off1_inb L r)
abbrev oAll (f : Buf (Elt F) (oLoc d)) : sProp 𝕄 := bigSep Finset.univ fun r : Fin 14 => oP d L (BitVec.ofNat 32 (8 * r.val)) (k1_off2_inb L r) f

theorem bigSep_fin14 (Φ : Fin 14 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

theorem xAll_eq : xAll m d L = iprop(
    xP m d L 0#32 (k1_off1_inb L 0) ∗ xP m d L 8#32 (k1_off1_inb L 1) ∗ xP m d L 16#32 (k1_off1_inb L 2) ∗ xP m d L 24#32 (k1_off1_inb L 3)
    ∗ xP m d L 32#32 (k1_off1_inb L 4) ∗ xP m d L 40#32 (k1_off1_inb L 5) ∗ xP m d L 48#32 (k1_off1_inb L 6) ∗ xP m d L 56#32 (k1_off1_inb L 7)
    ∗ xP m d L 64#32 (k1_off1_inb L 8) ∗ xP m d L 72#32 (k1_off1_inb L 9) ∗ xP m d L 80#32 (k1_off1_inb L 10) ∗ xP m d L 88#32 (k1_off1_inb L 11)
    ∗ xP m d L 96#32 (k1_off1_inb L 12) ∗ xP m d L 104#32 (k1_off1_inb L 13)) := bigSep_fin14 _

theorem oAll_eq (f : Buf (Elt F) (oLoc d)) : oAll d L f = iprop(
    oP d L 0#32 (k1_off2_inb L 0) f ∗ oP d L 8#32 (k1_off2_inb L 1) f ∗ oP d L 16#32 (k1_off2_inb L 2) f ∗ oP d L 24#32 (k1_off2_inb L 3) f
    ∗ oP d L 32#32 (k1_off2_inb L 4) f ∗ oP d L 40#32 (k1_off2_inb L 5) f ∗ oP d L 48#32 (k1_off2_inb L 6) f ∗ oP d L 56#32 (k1_off2_inb L 7) f
    ∗ oP d L 64#32 (k1_off2_inb L 8) f ∗ oP d L 72#32 (k1_off2_inb L 9) f ∗ oP d L 80#32 (k1_off2_inb L 10) f ∗ oP d L 88#32 (k1_off2_inb L 11) f
    ∗ oP d L 96#32 (k1_off2_inb L 12) f ∗ oP d L 104#32 (k1_off2_inb L 13) f) := bigSep_fin14 _

/-! ## The buffer is its two halves -/

theorem mem_sl0 (i : S2x8x4096.Idx) : i ∈ (sl0).view.set ↔ (i 0).val = 0 := by
  rw [show (sl0).view.set = (Rect.unit (s := S2x8x4096) ![0, 0, 0] S1x8x4096.size inb_S2x8x4096_S1x8x4096_0_0_0).set from
    (View.set_reshape _ _).trans (View.set_slice_whole _ _), Rect.mem_set_unit]
  refine ⟨fun h => by have := (h 0).2; simpa using this, fun h a => ?_⟩
  match a with
  | 0 => simp [h]
  | 1 => exact ⟨Nat.zero_le _, (Nat.zero_add 8).symm ▸ (i 1).isLt⟩
  | 2 => exact ⟨Nat.zero_le _, (Nat.zero_add 4096).symm ▸ (i 2).isLt⟩

theorem mem_sl1 (i : S2x8x4096.Idx) : i ∈ (sl1).view.set ↔ (i 0).val = 1 := by
  rw [show (sl1).view.set = (Rect.unit (s := S2x8x4096) ![1, 0, 0] S1x8x4096.size inb_S2x8x4096_S1x8x4096_1_0_0).set from
    (View.set_reshape _ _).trans (View.set_slice_whole _ _), Rect.mem_set_unit]
  refine ⟨fun h => by have h1 := (h 0).1; have h2 := (h 0).2; simp at h1 h2; omega, fun h a => ?_⟩
  match a with
  | 0 => simp [h]
  | 1 => exact ⟨Nat.zero_le _, (Nat.zero_add 8).symm ▸ (i 1).isLt⟩
  | 2 => exact ⟨Nat.zero_le _, (Nat.zero_add 4096).symm ▸ (i 2).isLt⟩

theorem halves_disjoint : Disjoint (sl0).view.set (sl1).view.set :=
  Finset.disjoint_left.mpr fun i h0 h1 => by
    have h0 := (mem_sl0 i).mp h0; have h1 := (mem_sl1 i).mp h1; omega

theorem halves_union : (sl0).view.set ∪ (sl1).view.set = Finset.univ := by
  refine Finset.eq_univ_of_forall fun i => ?_
  rw [Finset.mem_union]
  have hi : (i 0).val < 2 := (i 0).isLt
  rcases (show (i 0).val = 0 ∨ (i 0).val = 1 by omega) with h | h
  · exact Or.inl ((mem_sl0 i).mpr h)
  · exact Or.inr ((mem_sl1 i).mpr h)

abbrev half0 (f : Buf (Elt F) ((V d (cV L) (jV L)).loc cc1_scratch0)) : sProp 𝕄 := (sl0).view.loc (V d (cV L) (jV L)) ↦[(sl0).view.set]{fullShare} f
abbrev half1 (f : Buf (Elt F) ((V d (cV L) (jV L)).loc cc1_scratch0)) : sProp 𝕄 := (sl1).view.loc (V d (cV L) (jV L)) ↦[(sl1).view.set]{fullShare} f

theorem halves_split (f : Buf (Elt F) ((V d (cV L) (jV L)).loc cc1_scratch0)) :
    ((V d (cV L) (jV L)).loc cc1_scratch0 ↦{fullShare} f) ⊢ (iprop(half0 d L f ∗ half1 d L f) : sProp 𝕄) := by
  have h := (pointsTo_union (Val := Elt F) (Ix := HIx 1) (Name := ℕ) (U := UU) (Lvl := ℕ) (ℓ := (V d (cV L) (jV L)).loc cc1_scratch0) (q := fullShare) (f := f) halves_disjoint).1
  rw [halves_union] at h
  exact h

theorem halves_join (f g : Buf (Elt F) ((V d (cV L) (jV L)).loc cc1_scratch0)) :
    (iprop(half0 d L f ∗ half1 d L g) : sProp 𝕄) ⊢ iprop(∃ f, (V d (cV L) (jV L)).loc cc1_scratch0 ↦{fullShare} f) := by
  have h := (pointsTo_join (Val := Elt F) (Ix := HIx 1) (Name := ℕ) (U := UU) (Lvl := ℕ) (ℓ := (V d (cV L) (jV L)).loc cc1_scratch0) (q := fullShare) (f := f) (g := g) halves_disjoint)
  rw [halves_union] at h
  iintro H
  iexists _
  iapply h
  iexact H

/-! ## The task's own cells and buffer, out of all a subcore has -/

abbrev cell (s : DmaSem sig) : GSem nD τ sig := (V d (cV L) (jV L), .dma s)

theorem ownSems0_V :
    (ownSems0 (V d (cV L) (jV L)) : sProp 𝕄)
      = iprop(semVal (cell d L semI0) 0 ∗ semVal (cell d L semI1) 0 ∗ semVal (cell d L semO0) 0 ∗ semVal (cell d L semO1) 0
          ∗ bigSep (((((ownCells (V d (cV L) (jV L))).erase (cell d L semI0)).erase (cell d L semI1)).erase (cell d L semO0)).erase (cell d L semO1)) fun g => semVal g 0) := by
  have hm : ∀ s : DmaSem sig, (SemLoc.dma s : SemLoc sig).isScoped .scVector = true → cell d L s ∈ ownCells (V d (cV L) (jV L)) :=
    fun s h => mem_ownCells.mpr ⟨rfl, h⟩
  have hne : ∀ s t : DmaSem sig, s ≠ t → cell d L s ≠ cell d L t := fun s t h e => h (SemLoc.dma.inj (Prod.ext_iff.mp e).2)
  unfold SparseCore.Cfg.ownSems0
  rw [SparseCore.bigSep_erase' (hm semI0 (by decide)),
    SparseCore.bigSep_erase' (Finset.mem_erase.mpr ⟨hne semI1 semI0 (by decide), hm semI1 (by decide)⟩),
    SparseCore.bigSep_erase' (Finset.mem_erase.mpr ⟨hne semO0 semI1 (by decide), Finset.mem_erase.mpr ⟨hne semO0 semI0 (by decide), hm semO0 (by decide)⟩⟩),
    SparseCore.bigSep_erase' (Finset.mem_erase.mpr ⟨hne semO1 semO0 (by decide), Finset.mem_erase.mpr ⟨hne semO1 semI1 (by decide),
      Finset.mem_erase.mpr ⟨hne semO1 semI0 (by decide), hm semO1 (by decide)⟩⟩⟩)]

theorem ownBufs_V :
    (ownBufs (V d (cV L) (jV L)) : sProp 𝕄)
      = iprop((∃ f, (V d (cV L) (jV L)).loc cc1_scratch0 ↦{fullShare} f)
          ∗ bigSep ((ownRefs (τ := τ) (.scVector (cV L) (jV L))).erase ((Proc.scVector (cV L) (jV L)).devRef cc1_scratch0))
              fun b => iprop(∃ f, ((d, b) : Loc nD τ sig) ↦{fullShare} f)) :=
  SparseCore.bigSep_erase' (SparseCore.Cfg.mem_ownRefs_of_owner (p := Proc.scVector (cV L) (jV L)) (b := (Proc.scVector (cV L) (jV L)).devRef cc1_scratch0) rfl)

variable [FloatOps F]

/-- The task from its own eight-row pieces: each goes through a half of the buffer to the partial result. -/
theorem tile_core (O : CellTallies nD τ sig (HIx 1)) (W : Waits sig (HIx 1))
    (f0 f1 : Buf (Elt F) ((V d (cV L) (jV L)).loc cc1_scratch0)) :
    iprop(Transfers.MayWaits (V d (cV L) (jV L)) (default : HIx 1) O
        ∗ xAll m d L ∗ oAll d L (m (oLoc d))
        ∗ ((sl0).view.loc (V d (cV L) (jV L)) ↦[(sl0).view.set]{fullShare} f0)
        ∗ ((sl1).view.loc (V d (cV L) (jV L)) ↦[(sl1).view.set]{fullShare} f1)
        ∗ semVal (V d (cV L) (jV L), .dma semI0) 0 ∗ semVal (V d (cV L) (jV L), .dma semI1) 0
        ∗ semVal (V d (cV L) (jV L), .dma semO0) 0 ∗ semVal (V d (cV L) (jV L), .dma semO1) 0
        ∗ owes (V d (cV L) (jV L)) O W)
      ⊢ wp frame (wpE (defs₀ (F := F)) 𝒱₀ (V d (cV L) (jV L)) none) Set.univ
          (cc1__sc_copy L xV (Memref.isWhole_whole _) oV (Memref.isWhole_whole _) bV (Memref.isWhole_whole _) cc1_scratch1 cc1_scratch2)
          fun _ => iprop(xAll m d L ∗ oAll d L (copied m d)
            ∗ (∃ f, (sl0).view.loc (V d (cV L) (jV L)) ↦[(sl0).view.set]{fullShare} f)
            ∗ (∃ f, (sl1).view.loc (V d (cV L) (jV L)) ↦[(sl1).view.set]{fullShare} f)
            ∗ semVal (V d (cV L) (jV L), .dma semI0) 0 ∗ semVal (V d (cV L) (jV L), .dma semI1) 0
            ∗ semVal (V d (cV L) (jV L), .dma semO0) 0 ∗ semVal (V d (cV L) (jV L), .dma semO1) 0
            ∗ ∃ W', ⌜∀ p ∈ W', p ∈ W ∨ p.2 = none ∨ p.2 = some (0 : Fin 1)⌝ ∗ owes (V d (cV L) (jV L)) O W') := by
  rw [xAll_eq, oAll_eq, oAll_eq]
  iintro ⟨Hmw, ⟨X0, X1, X2, X3, X4, X5, X6, X7, X8, X9, X10, X11, X12, X13⟩, ⟨O0, O1, O2, O3, O4, O5, O6, O7, O8, O9, O10, O11, O12, O13⟩, B0, B1, SI0, SI1, SO0, SO1, HO⟩
  sl_unfold [cc1__sc_copy, k1_part19, k1_part18, k1_part17, k1_part16, k1_part15, k1_part14, k1_part13, k1_part12, k1_part11, k1_part10, k1_part9, k1_part8, k1_part7, k1_part6, k1_part5, k1_part4, k1_part3, k1_part2, k1_part1]
  sl_exec (disch := exact View.amount_pos _ _ (show 0 < S8x4096.numel by decide))
  sl_step
  isplitl [X0 X1 X2 X3 X4 X5 X6 X7 X8 X9 X10 X11 X12 X13]
  · iframe
  isplitl [O0 O1 O2 O3 O4 O5 O6 O7 O8 O9 O10 O11 O12 O13]
  · isplitl [O0]; · iapply (Entails.of_eq (oP_copied m d L 0 _ (slot_read _ _ _ _))); iexact O0
    isplitl [O1]; · iapply (Entails.of_eq (oP_copied m d L 1 _ (slot_read _ _ _ _))); iexact O1
    isplitl [O2]; · iapply (Entails.of_eq (oP_copied m d L 2 _ (slot_read _ _ _ _))); iexact O2
    isplitl [O3]; · iapply (Entails.of_eq (oP_copied m d L 3 _ (slot_read _ _ _ _))); iexact O3
    isplitl [O4]; · iapply (Entails.of_eq (oP_copied m d L 4 _ (slot_read _ _ _ _))); iexact O4
    isplitl [O5]; · iapply (Entails.of_eq (oP_copied m d L 5 _ (slot_read _ _ _ _))); iexact O5
    isplitl [O6]; · iapply (Entails.of_eq (oP_copied m d L 6 _ (slot_read _ _ _ _))); iexact O6
    isplitl [O7]; · iapply (Entails.of_eq (oP_copied m d L 7 _ (slot_read _ _ _ _))); iexact O7
    isplitl [O8]; · iapply (Entails.of_eq (oP_copied m d L 8 _ (slot_read _ _ _ _))); iexact O8
    isplitl [O9]; · iapply (Entails.of_eq (oP_copied m d L 9 _ (slot_read _ _ _ _))); iexact O9
    isplitl [O10]; · iapply (Entails.of_eq (oP_copied m d L 10 _ (slot_read _ _ _ _))); iexact O10
    isplitl [O11]; · iapply (Entails.of_eq (oP_copied m d L 11 _ (slot_read _ _ _ _))); iexact O11
    isplitl [O12]; · iapply (Entails.of_eq (oP_copied m d L 12 _ (slot_read _ _ _ _))); iexact O12
    iapply (Entails.of_eq (oP_copied m d L 13 _ (slot_read _ _ _ _))); iexact O13
  isplitl [B0]; · iexists _; iexact B0
  isplitl [B1]; · iexists _; iexact B1
  isplitl [SI0]; · iexact SI0
  isplitl [SI1]; · iexact SI1
  isplitl [SO0]; · iexact SO0
  isplitl [SO1]; · iexact SO1
  iexists _
  isplitr
  swap; · iexact HO
  ipureintro
  rintro ⟨l, _ | q⟩ -
  · exact Or.inr (Or.inl rfl)
  · exact Or.inr (Or.inr (congrArg some (Subsingleton.elim q 0)))

/-- The task on one vector subcore: its rows of the argument as they were, its rows of the partial result copied. -/
theorem tile_body (hF : (K (F := F)).Facts) (O : CellTallies nD τ sig (HIx 1)) (W : Waits sig (HIx 1)) (hO : ∀ g, O g none = 0) :
    iprop(levAts (K (F := F)).L (K (F := F)).lev ∗ emp ∗ (xAll m d L ∗ oAll d L (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_copy L xV (Memref.isWhole_whole _) oV (Memref.isWhole_whole _) bV (Memref.isWhole_whole _) cc1_scratch1 cc1_scratch2)
          fun _ => iprop((xAll m d L ∗ oAll d L (copied m d)) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨⟨%f, Hs⟩, Hbufs⟩, ⟨SI0, SI1, SO0, SO1, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hh := (halves_split d L f) $$ Hs
  icases Hh with ⟨B0, B1⟩
  iapply (wp_wand_r frame _ _)
  isplitl [Hx Ho B0 B1 SI0 SI1 SO0 SO1 HO]
  · iapply (tile_core m d L O W f f)
    isplitr; · iexact Hmw
    iframe
  iintro %_ ⟨Hx, Ho, ⟨%g0, B0⟩, ⟨%g1, B1⟩, SI0, SI1, SO0, SO1, HO⟩
  ihave Hs := (halves_join d L g0 g1) $$ [B0 B1]
  · isplitl [B0]; · iexact B0
    iexact B1
  iframe

end Tile

end Cert.Proof.Kernel

end
-- ==== Proof.Region.lean ====
/-
  The TensorCore's pallas_call: nine blocks of 512 rows copied from the argument to the first partial result,
  while the core still owes the SparseCores' starts.
-/
module

public import proofs.«01_k».proof.Proof.Tile
public import proofs.«01_k».proof.Proof.Gen.Kernel.Launch
public import proofs.«01_k».proof.Proof.Gen.Kernel.Points
public import Idealize.ShloMosaic.Lib.Pipeline.RegionArrays
public import Idealize.ShloMosaic.Lib.Pipeline.FrameBody
public import Idealize.ShloMosaic.Lib.Pipeline.Value
public import Idealize.ShloMosaic.Lib.Pipeline.ValueKit

@[expose] public section

noncomputable section

namespace Cert.Proof.Kernel

open Cert.Kernel Cert.Kernel.Gen

open Idealize.ShloMosaic Idealize.ShloMosaic.TcCoe
open Idealize.ShloMosaic.SparseCore (S V T)
open Idealize.ShloMosaic.SparseCore.Cfg (HIx Pay)
open Idealize.ShloMosaic.Pipeline (Dat BodyObligation RegionSeg OwnSemFacts pin cells launchToks toksInit cellsGhost)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-- The staging buffers' rounds, in the certificate's algebra. -/
def EP : Emb (URounds (GSem nD τ sig) Unit) (MT nD τ sig (HIx 1) (Elt F) ℕ UU ℕ) :=
  ((Emb.inl : Emb (URounds (GSem nD τ sig) Unit) (URounds (GSem nD τ sig) Unit × Counters)).trans
    (Emb.inr : Emb (URounds (GSem nD τ sig) Unit × Counters) UU)).trans
      (uEmb (nD := nD) (sig := sig) (Ix := HIx 1) (Val := Elt F) (Name := ℕ) (U := UU) (Lvl := ℕ)).toEmb

instance EP_landsIn : (EP (F := F) : Emb _ 𝕄).LandsIn (upEmb : UEmb _ 𝕄) := by unfold EP; infer_instance

/-- The configurations' tables: none has one. -/
abbrev adm : (p : Fin 1) → (pcfgs (F := F) p).Adm := fun p => (cfgs p).toPCfg_adm

/-! ## The pipeline's proof data -/

/-- What a fetch at point `t` puts in the staging buffer: the argument's block. -/
abbrev blk (c : Dev nD) (t : Fin cfg0.N) : (win0_0.xblock (grid0.coords t)).Idx → Elt F win0_0.elt :=
  (win0_0.blk t).view.read (Elt F) (m (win0_0.arr.view.loc (c.tc : Thread nD τ)))

/-- The proof data on core `c`: the arrays as they come; both staging buffers left at the point's block; nothing kept
    between points; the handshake's starts owed throughout, every wait recorded at level zero. -/
def dats (_ : Fin 1) (c : Dev nD) : Dat τ (Elt F) (HIx 1) ℕ UU ℕ cfg0 c where
  A w := m ((cfg0.win w).arr.view.loc (c.tc : Thread nD τ))
  after w t := match w with
    | ⟨0, _⟩ => blk m c t
    | ⟨1, _⟩ => blk m c t
  Φ _ := BI.emp
  q _ := fullShare
  owed _ := (K (F := F)).Otc c 0
  recorded _ := {p | (K (F := F)).lev (T c, p.1) p.2 ≤ 0}

theorem before_in (c : Dev nD) (t : Fin cfg0.N) (d : (cfg0.win 0).block.Idx → Elt F (cfg0.win 0).elt) :
    (dats m 0 c).before 0 t d = blk m c t := by
  unfold Dat.before; rw [if_pos (fetch0_0 t)]; rfl

theorem zero2 : (![0, 0] : Fin 2 → ℕ) = fun _ => 0 := funext fun a => by fin_cases a <;> rfl

/-- The body, over any two staging buffers: the first read whole, the second left at what the first holds. -/
theorem body_run (c : Dev nD) (i : grid0.Coords) (a₁ a₂ : Memref sig .tc .vmem S512x4096 .f32) (h₁ : a₁.IsWhole) (h₂ : a₂.IsWhole)
    (X Y : S512x4096.Idx → Elt F .f32) :
    iprop(owns (c.tc : Thread nD τ) a₁ fullShare X ∗ owns (c.tc : Thread nD τ) a₂ fullShare Y)
      ⊢ (wp frame (wpE (defs₀ (F := F)) 𝒱₀ (c.tc : Thread nD τ) none) Set.univ (cc0__tc_body i a₁ h₁ a₂ h₂) fun _ =>
          iprop(owns (c.tc : Thread nD τ) a₁ fullShare X ∗ owns (c.tc : Thread nD τ) a₂ fullShare X) : sProp 𝕄) := by
  unfold owns
  iintro ⟨⟨%f, %hf, H⟩, ⟨%g, -, H'⟩⟩
  unfold cc0__tc_body
  sl_exec
  sl_step
  isplitl [H]
  · iexists f; isplitr; · ipureintro; exact hf
    iexact H
  · iexists _; isplitr; swap; · iexact H'
    ipureintro
    rw [View.read_writes_eq_canon _ _ _ fun y => ⟨_, List.mem_cons_self, View.mem_set_unit_zero zero2 inb_S512x4096_S512x4096_0_0 y⟩, View.canon_unit_zero zero2]
    exact (View.ld_unit_zero zero2 _ (a₁.view.read (Elt F) f)).trans hf

/-- The body obligation of the pipeline: the fetched block loaded and stored whole. -/
theorem body_obligation (c : Dev nD) : BodyObligation (dats m 0 c) (defs₀ (F := F)) 𝒱₀ none Set.univ := fun t => by
  rw [bigSep_W0, bigSep_W0]
  rw [show (dats m 0 c).Φ t.castSucc = BI.emp from rfl, show (dats m 0 c).Φ t.succ = BI.emp from rfl,
    show (dats m 0 c).owesAt none t.succ = (dats m 0 c).owesAt none t.castSucc from rfl]
  simp only [before_in]
  iintro ⟨-, Howes, ⟨%d0, H0⟩, ⟨%d1, H1⟩⟩
  iapply (wp_wand_r frame _ _)
  isplitl [H0 H1]
  · iapply (body_run c (grid0.coords t) (win0_0.stage (cfg0.slots t 0)) (win0_1.stage (cfg0.slots t 1))
      (hstage0_0 ((cfg0.slots t 0).cast nbuf0_0)) (hstage0_1 ((cfg0.slots t 1).cast nbuf0_1)) (blk m c t) ((dats m 0 c).before 1 t d1))
    isplitl [H0]; · iexact H0
    iexact H1
  iintro %_ ⟨H0, H1⟩
  isplitr; · iempintro
  isplitl [Howes]; · iexact Howes
  isplitl [H0]; · iexact H0
  iexact H1

/-! ## What the run leaves -/

/-- A row of the first partial result as a row of the argument. -/
abbrev above (i : S4608x4096.Idx) : S8192x4096.Idx := fun a => match a with
  | ⟨0, _⟩ => ⟨(i 0).val, Nat.lt_of_lt_of_le (i 0).isLt (show 4608 ≤ 8192 by omega)⟩
  | ⟨1, _⟩ => i 1

/-- The first partial result after the run: the argument's first 4608 rows. -/
abbrev top (c : Dev nD) : Buf (Elt F) ((c.tc : Thread nD τ).loc main_v0) := fun i => m (xLoc c) (above i)

theorem final_v0 (c : Dev nD) : (dats m 0 c).arrAt 1 cfg0.N = top m c := by
  refine (dats m 0 c).arrAt_eq_of_covers 1 _ (by decide +kernel) fun t hf y => ?_
  have e₀ : ∀ t : Fin cfg0.N, win0_0.index t = ![(grid0.coords t 0).val, 0] := (by decide +kernel : ∀ t : Fin grid0.N, _)
  have e₁ : ∀ t : Fin cfg0.N, win0_1.index t = ![(grid0.coords t 0).val, 0] := (by decide +kernel : ∀ t : Fin grid0.N, _)
  show blk m c t y = _
  show m (xLoc c) ((win0_0.blk t).view.emb y) = m (xLoc c) (above ((win0_1.blk t).view.emb y))
  refine congrArg (m (xLoc c)) (funext fun a => Fin.ext ?_)
  match a with
  | ⟨0, _⟩ =>
    show ((win0_0.rect t).emb y 0 : ℕ) = ((win0_1.rect t).emb y 0 : ℕ)
    rw [Pipeline.Window.rect_emb_val win0_0 t y 0, Pipeline.Window.rect_emb_val win0_1 t y 0, e₀, e₁]
  | ⟨1, _⟩ =>
    show ((win0_0.rect t).emb y 1 : ℕ) = ((win0_1.rect t).emb y 1 : ℕ)
    rw [Pipeline.Window.rect_emb_val win0_0 t y 1, Pipeline.Window.rect_emb_val win0_1 t y 1, e₀, e₁]

theorem share_eq (c : Dev nD) (w : Fin cfg0.W) : (dats m 0 c).share w = fullShare := by
  unfold Dat.share; split <;> rfl

/-- The two windows' arrays, whole. -/
theorem arrays_pts (c : Dev nD) (G : (w : Fin cfg0.W) → Buf (Elt F) ((cfg0.win w).arr.view.loc (c.tc : Thread nD τ))) :
    ((dats m 0 c).arrays G : sProp 𝕄)
      = iprop((xLoc c ↦{fullShare} G 0) ∗ ((c.tc : Thread nD τ).loc main_v0 ↦{fullShare} G 1)) := by
  rw [Pipeline.arrays_eq cfgs (dats m) 0 c arr_whole0 (share_eq m c) G, bigSep_W0]

/-- What the TensorCore owes before the SparseCores' call, every wait so far recorded at level zero. -/
abbrev debt (c : Dev nD) : sProp 𝕄 :=
  iprop(∃ W, ⌜(K (F := F)).WBelow (T c) W 0⌝ ∗ owes (T c) ((K (F := F)).Otc c 0) W)

/-! ## The region -/

/-- The pallas_call as a region: from the argument and the first partial result as they come, to the latter at the
    argument's first rows, the handshake's debt untouched. -/
def region : RegionSeg (pcfgs (F := F)) adm (dats m) none defs₀ 𝒱₀ ((K (F := F)).L (N := 1)) ((K (F := F)).lev (N := 1)) 0 where
  win := winFacts0.to₀
  block_pos := block_pos0
  stage_whole := stage_whole0
  K := PEmpty
  osem k := k.elim
  ho := OwnSemFacts.none _
  hbody c := (body_obligation m c).loose
  hwaits c := Pipeline.cellsWaits_of_cut (pin pcfgs adm) (dats m) none 0 c 0 ((K (F := F)).Otc c 0) (fun _ => rfl)
    (fun _ _ => Finset.mem_univ _) (fun _ _ => Nat.le_refl 0)
    (fun g i h => ⟨Finset.mem_univ _, lt_of_lt_of_le (Nat.succ_pos _) (SparseCore.Cfg.lev_of_Otc_pos h)⟩)
  pre c := iprop((xLoc c ↦{fullShare} m (xLoc c)) ∗ ((c.tc : Thread nD τ).loc main_v0 ↦{fullShare} m ((c.tc : Thread nD τ).loc main_v0)) ∗ debt c)
  post c := iprop((xLoc c ↦{fullShare} m (xLoc c)) ∗ ((c.tc : Thread nD τ).loc main_v0 ↦{fullShare} top m c) ∗ debt c)
  X _ := BI.emp
  Y _ := BI.emp
  Z _ := BI.emp
  hentry c := by
    rw [Pipeline.ownSems0_none, Pipeline.prefHeld_of_none _ rfl, show (dats m 0 c).arrays _ = _ from arrays_pts m c _]
    iintro ⟨⟨Hx, Hv, ⟨%W, %hW, HO⟩⟩, -, -⟩
    imodintro
    isplitl [Hx Hv]
    · isplitl [Hx]; · iexact Hx
      iexact Hv
    isplitr; · iempintro
    isplitl [HO]
    · unfold Dat.owesAt Pipeline.owesWithin
      iexists W; isplitr; · ipureintro; exact fun p hp => Or.inl (hW p hp)
      iexact HO
    isplitr <;> iempintro
  hin c := by iintro -; iempintro
  hout c := by
    rw [Pipeline.ownSems0_none, scopedRest0_eq]
    iintro -
    isplitr; · iempintro
    isplitr <;> iempintro
  hexit c := by
    rw [show (dats m 0 c).arrays _ = _ from arrays_pts m c _]
    unfold Dat.owesAt Pipeline.owesWithin
    iintro ⟨⟨Hx, Hv⟩, ⟨%W, %hW, HO⟩, -, -⟩
    imodintro
    isplitl [Hx]; · rw [show m (xLoc c) = _ from ((dats m 0 c).arrAt_in 0 rfl _).symm]; iexact Hx
    isplitl [Hv]; · rw [← final_v0 m c]; iexact Hv
    iexists W; isplitr; swap; · iexact HO
    ipureintro
    intro p hp
    rcases hW hp with h | ⟨w, s, rfl⟩
    · exact h
    · exact Nat.le_refl 0

/-- The pipelines at their tables. -/
abbrev cfgP : Fin 1 → Pipeline.Cfg sig Λ₀ := pin (pcfgs (F := F)) adm

/-- No two staging buffers of the pipeline complete on one semaphore. -/
theorem phinj : Function.Injective (Pipeline.cellOf (nD := nD) (τ := τ) (cfgP (F := F))) := launch0.toP.cellOf_inj adm

/-- The first statement of @main. -/
theorem region_wp (c : Dev nD) :
    iprop(boundary (T c : Thread nD τ) ∗ (region m).pre c ∗ levAts ((K (F := F)).L (N := 1)) ((K (F := F)).lev (N := 1))
        ∗ cellsGhost (cfgP (F := F)) (EP (F := F)) 0 c ∗ toksInit (cfgP (F := F)) (EP (F := F)) 0 c)
      ⊢ (wp frame (wpE ((K (F := F)).defs D) 𝒱 (T c) none) Set.univ
          (Prog.lift (.customCall (SparseCore.inner (Pipeline.entry 0)) ()))
          fun _ => iprop(boundary (T c : Thread nD τ) ∗ (region m).post c) : sProp 𝕄) := by
  have h₁ := (K (F := F)).wp_liftProg (D (F := F)) 𝒱 (T c) Set.univ none
    (Prog.lift (.customCall (Pipeline.entry 0) ()) : Prog (TpuEff nD τ sig (Elt F) (ΛP (F := F)) .tc) PUnit)
    (fun _ => iprop(boundary (T c : Thread nD τ) ∗ (region m).post c))
  refine BIBase.Entails.trans ?_ h₁
  have h := RegionSeg.wp (pcfgs (F := F)) adm (dats m) none phinj EP defs₀ 𝒱₀ _ _ (region m) c none
    (fun u hu => nomatch hu) .ret (fun _ : PUnit => iprop(boundary (T c : Thread nD τ) ∗ (region m).post c))
  refine BIBase.Entails.trans ?_ h
  iintro ⟨Hb, Hpre, Hla, Hg, Ht⟩
  isplitr [Hb Hpre Hla Hg Ht]
  · iintro H
    rw [wp_ret]; imodintro; iexact H
  isplitl [Hb]; · iexact Hb
  isplitl [Hpre]; · iexact Hpre
  isplitl [Hla]; · iexact Hla
  isplitl [Hg]; · iexact Hg
  iexact Ht

end Cert.Proof.Kernel

end
-- ==== Proof.Launch.lean ====
/-
  The whole program: the TensorCore's pipeline, the SparseCores' call dealt over its 32 tasks, and the
  concatenation of the two partial results, run from any launch memory to the argument copied.
-/
module

public import proofs.«01_k».proof.Proof.Region

@[expose] public section

noncomputable section

namespace Cert.Proof.Kernel

open Cert.Kernel Cert.Kernel.Gen

open Idealize.ShloMosaic Idealize.ShloMosaic.TcCoe
open Idealize.ShloMosaic.SparseCore (S V T)
open Idealize.ShloMosaic.SparseCore.Cfg (HIx Pay)
open Idealize.ShloMosaic.Pipeline (cells launchToks toksInit cellsGhost)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch's set-up -/

abbrev v₀ : 𝒱.V := Sum.inl none

/-- What the launch asks of the handshakes' semaphores and the cores' buffers. -/
theorem facts : (K (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' rounds, in the certificate's algebra. -/
abbrev EH : Emb (URounds (GSem nD τ sig) ℕ) (MT nD τ sig (HIx 1) (Elt F) ℕ UU ℕ) := embL

/-- Subcore `s` of SparseCore `c`, as a point of the kernel's grid. -/
def pt (c : Fin (grid1.bound 0)) (s : Fin (grid1.bound 1)) : grid1.Coords :=
  fun | 0 => c | 1 => s | ⟨_ + 2, h⟩ => absurd h (Nat.not_lt.2 (Nat.le_add_left _ _))

/-- What a task works on: its rows of the argument, and of the partial result at `f`. -/
abbrev rows (d : Dev nD) (f : Buf (Elt F) (oLoc d)) (c : Fin (grid1.bound 0)) (s : Fin (grid1.bound 1)) : sProp 𝕄 :=
  iprop(xAll m d (pt c s) ∗ oAll d (pt c s) f)

/-- The call's payloads: a sequencer takes its sixteen tasks' rows and gives them back copied, a task its own. -/
def P : (K (F := F)).Pay (nD := nD) (Val := Elt F) (Name := ℕ) (U := UU) where
  st := fun q d c => bigSep Finset.univ fun i : Fin ((K (F := F)).nSub q) => rows m d (m (oLoc d)) ((K (F := F)).core q c) ((K (F := F)).sub q i)
  dn := fun q d c => bigSep Finset.univ fun i : Fin ((K (F := F)).nSub q) => rows m d (copied m d) ((K (F := F)).core q c) ((K (F := F)).sub q i)
  go := fun q d c i => rows m d (m (oLoc d)) ((K (F := F)).core q c) ((K (F := F)).sub q i)
  td := fun q d c i => rows m d (copied m d) ((K (F := F)).core q c) ((K (F := F)).sub q i)
  x := fun _ _ => iprop(emp)

instance P_storable : (P (F := F) m).IsStorable where
  st q d c := (inferInstance : BI.Storable (upEmb : UEmb _ 𝕄)
    (bigSep Finset.univ fun i : Fin ((K (F := F)).nSub q) => rows m d (m (oLoc d)) ((K (F := F)).core q c) ((K (F := F)).sub q i)))
  dn q d c := (inferInstance : BI.Storable (upEmb : UEmb _ 𝕄)
    (bigSep Finset.univ fun i : Fin ((K (F := F)).nSub q) => rows m d (copied m d) ((K (F := F)).core q c) ((K (F := F)).sub q i)))
  go q d c i := (inferInstance : BI.Storable (upEmb : UEmb _ 𝕄) (rows m d (m (oLoc d)) ((K (F := F)).core q c) ((K (F := F)).sub q i)))
  td q d c i := (inferInstance : BI.Storable (upEmb : UEmb _ 𝕄) (rows m d (copied m d) ((K (F := F)).core q c) ((K (F := F)).sub q i)))

/-! ## The tasks -/

theorem defs₀_task (c : Fin τ.nSC) (s : Fin τ.nSub) :
    defs₀ (F := F) (.scVector c s) 1 ()
      = SparseCore.onTile hcore1 hsub1 (fun c s => cc1__sc_copy (pt c s)
          (Memref.whole main_arg0_scv) (Memref.isWhole_whole _) (Memref.whole main_v1_scv) (Memref.isWhole_whole _)
          (Memref.whole cc1_scratch0) (Memref.isWhole_whole _) cc1_scratch1 cc1_scratch2) ⟨⟩ c s := rfl

theorem tileObl : (K (F := F)).TileObl D 𝒱 (P m) v₀ 0 := by
  intro d c i O W hO _ _
  simp only [show (P (F := F) m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_task]; simp only [SparseCore.onTile, hci, and_self, ↓reduceDIte]
  exact tile_body m d (pt ⟨_, hci.1⟩ ⟨_, hci.2⟩) facts O W hO

/-- A sequencer's payload is its tasks'. -/
theorem vecSplit : (K (F := F)).VecSplit' (P m) 0 := by
  intro d c
  change (bigSep Finset.univ fun i : Fin ((K (F := F)).nSub 0) => rows m d (m (oLoc d)) ((K (F := F)).core 0 c) ((K (F := F)).sub 0 i))
    ⊢ |={Set.univ}=> iprop((bigSep Finset.univ fun i : Fin ((K (F := F)).nSub 0) => rows m d (m (oLoc d)) ((K (F := F)).core 0 c) ((K (F := F)).sub 0 i))
      ∗ ((bigSep Finset.univ fun i : Fin ((K (F := F)).nSub 0) => rows m d (copied m d) ((K (F := F)).core 0 c) ((K (F := F)).sub 0 i))
        -∗ (bigSep Finset.univ fun i : Fin ((K (F := F)).nSub 0) => rows m d (copied m d) ((K (F := F)).core 0 c) ((K (F := F)).sub 0 i))))
  iintro H; imodintro
  isplitl [H]; · iexact H
  iintro H; iexact H

/-! ## The tasks' rows make up the arrays -/

/-- A task's eight-row chunk: the SparseCore, the subcore, the chunk. -/
abbrev Chunk : Type := Fin (grid1.bound 0) × Fin (grid1.bound 1) × Fin 14

def xSet (t : Chunk) : Finset S8192x4096.Idx := (xCh (pt t.1 t.2.1) (BitVec.ofNat 32 (8 * t.2.2.val)) (k1_off1_inb _ t.2.2)).view.set
def oSet (t : Chunk) : Finset S3584x4096.Idx := (oCh (pt t.1 t.2.1) (BitVec.ofNat 32 (8 * t.2.2.val)) (k1_off2_inb _ t.2.2)).view.set

/-- The chunk's first row, within the rows the SparseCores copy. -/
abbrev base (t : Chunk) : ℕ := 224 * t.2.1.val + 112 * t.1.val + 8 * t.2.2.val

theorem mem_xSet (t : Chunk) (i : S8192x4096.Idx) : i ∈ xSet t ↔ base t + 4608 ≤ (i 0).val ∧ (i 0).val < base t + 4608 + 8 := by
  unfold xSet
  rw [show (xCh (pt t.1 t.2.1) (BitVec.ofNat 32 (8 * t.2.2.val)) (k1_off1_inb _ t.2.2)).view.set
      = (Rect.unit (s := S8192x4096) (k1_off1 (pt t.1 t.2.1) (BitVec.ofNat 32 (8 * t.2.2.val))) S8x4096.size (k1_off1_inb _ t.2.2)).set from
    View.set_slice_whole _ _, Rect.mem_set_unit]
  have e := congrFun (k1_off1_eq (pt t.1 t.2.1) t.2.2)
  refine ⟨fun h => ?_, fun h a => ?_⟩
  · have h0 := h 0; rw [e 0] at h0; exact h0
  · rw [e a]
    match a with
    | 0 => exact h
    | 1 => exact ⟨Nat.zero_le _, lt_of_lt_of_eq (i 1).isLt (Nat.zero_add _).symm⟩

theorem mem_oSet (t : Chunk) (i : S3584x4096.Idx) : i ∈ oSet t ↔ base t ≤ (i 0).val ∧ (i 0).val < base t + 8 := by
  unfold oSet
  rw [show (oCh (pt t.1 t.2.1) (BitVec.ofNat 32 (8 * t.2.2.val)) (k1_off2_inb _ t.2.2)).view.set
      = (Rect.unit (s := S3584x4096) (k1_off2 (pt t.1 t.2.1) (BitVec.ofNat 32 (8 * t.2.2.val))) S8x4096.size (k1_off2_inb _ t.2.2)).set from
    View.set_slice_whole _ _, Rect.mem_set_unit]
  have e := congrFun (k1_off2_eq (pt t.1 t.2.1) t.2.2)
  refine ⟨fun h => ?_, fun h a => ?_⟩
  · have h0 := h 0; rw [e 0] at h0; exact h0
  · rw [e a]
    match a with
    | 0 => exact h
    | 1 => exact ⟨Nat.zero_le _, lt_of_lt_of_eq (i 1).isLt (Nat.zero_add _).symm⟩

/-- Chunks that share a row are one. -/
theorem chunk_ext (t t' : Chunk) (n : ℕ) (h : base t ≤ n ∧ n < base t + 8) (h' : base t' ≤ n ∧ n < base t' + 8) : t = t' := by
  obtain ⟨c, s, r⟩ := t; obtain ⟨c', s', r'⟩ := t'
  have hc : c.val < 2 := c.isLt
  have hc' : c'.val < 2 := c'.isLt
  have hr := r.isLt; have hr' := r'.isLt
  simp only [base] at h h'
  refine Prod.ext (Fin.ext ?_) (Prod.ext (Fin.ext ?_) (Fin.ext ?_)) <;> simp only <;> omega

theorem xSet_disj (t : Chunk) (_ : t ∈ (Finset.univ : Finset Chunk)) (t' : Chunk) (_ : t' ∈ (Finset.univ : Finset Chunk)) (h : t ≠ t') :
    Disjoint (xSet t) (xSet t') := Finset.disjoint_left.mpr fun i hi hi' => by
  have h1 := (mem_xSet t i).mp hi
  have h2 := (mem_xSet t' i).mp hi'
  exact h (chunk_ext t t' ((i 0).val - 4608) (by omega) (by omega))

theorem oSet_disj (t : Chunk) (_ : t ∈ (Finset.univ : Finset Chunk)) (t' : Chunk) (_ : t' ∈ (Finset.univ : Finset Chunk)) (h : t ≠ t') :
    Disjoint (oSet t) (oSet t') := Finset.disjoint_left.mpr fun i hi hi' =>
  h (chunk_ext t t' (i 0).val ((mem_oSet t i).mp hi) ((mem_oSet t' i).mp hi'))

/-- Every row of the partial result is some chunk's. -/
theorem oSet_cover : (Finset.univ : Finset Chunk).biUnion oSet = Finset.univ := by
  refine Finset.eq_univ_of_forall fun i => Finset.mem_biUnion.mpr ?_
  have hi : (i 0).val < 3584 := (i 0).isLt
  refine ⟨(⟨(i 0).val / 112 % 2, ?_⟩, ⟨(i 0).val / 224, ?_⟩, ⟨(i 0).val % 112 / 8, ?_⟩), Finset.mem_univ _, (mem_oSet _ i).mpr ?_⟩
  · show _ < 2; omega
  · show _ < 16; omega
  · omega
  · simp only [base]; omega

/-- The argument's rows the SparseCores copy. -/
abbrev low : Finset S8192x4096.Idx := (Finset.univ : Finset Chunk).biUnion xSet

/-- All the tasks' rows are the argument's lower rows and the whole partial result. -/
theorem rows_all (d : Dev nD) (f : Buf (Elt F) (oLoc d)) :
    (bigSep Finset.univ fun c => bigSep Finset.univ fun s => rows m d f c s)
      = iprop((xLoc d ↦[low]{fullShare} m (xLoc d)) ∗ (oLoc d ↦{fullShare} f : sProp 𝕄)) := by
  have hx : (bigSep Finset.univ fun c => bigSep Finset.univ fun s => (xAll m d (pt c s) : sProp 𝕄)) = (xLoc d ↦[low]{fullShare} m (xLoc d)) := by
    rw [show (xLoc d ↦[low]{fullShare} m (xLoc d) : sProp 𝕄) = _ from pointsTo_biUnion Finset.univ (ℓ := xLoc d) xSet xSet_disj, bigSep_univ_prod]
    refine bigSep_congr fun c _ => ?_
    rw [bigSep_univ_prod]; rfl
  have ho : (bigSep Finset.univ fun c => bigSep Finset.univ fun s => (oAll d (pt c s) f : sProp 𝕄)) = (oLoc d ↦{fullShare} f) := by
    rw [show (oLoc d ↦{fullShare} f : sProp 𝕄) = bigSep Finset.univ fun t : Chunk => (oLoc d ↦[oSet t]{fullShare} f) from by
      rw [← pointsTo_biUnion Finset.univ (ℓ := oLoc d) oSet oSet_disj, oSet_cover], bigSep_univ_prod]
    refine bigSep_congr fun c _ => ?_
    rw [bigSep_univ_prod]; rfl
  rw [← hx, ← ho, ← bigSep_sep']
  exact bigSep_congr fun c _ => bigSep_sep' _ _ _

/-- The call's tasks are the grid's points. -/
theorem tasks_eq (Φ : Fin (grid1.bound 0) → Fin (grid1.bound 1) → sProp 𝕄) :
    (bigSep Finset.univ fun c : Fin ((K (F := F)).nCore 0) => bigSep Finset.univ fun i : Fin ((K (F := F)).nSub 0) => Φ ((K (F := F)).core 0 c) ((K (F := F)).sub 0 i))
      = bigSep Finset.univ fun c => bigSep Finset.univ fun s => Φ c s :=
  bigSep_congr fun _ _ => bigSep_congr fun _ _ => congrArg₂ Φ (Fin.ext rfl) (Fin.ext rfl)

theorem st_eq (d : Dev nD) : (bigSep Finset.univ fun c : Fin ((K (F := F)).nCore 0) => (P m).st 0 d c)
    = iprop((xLoc d ↦[low]{fullShare} m (xLoc d)) ∗ (oLoc d ↦{fullShare} m (oLoc d) : sProp 𝕄)) :=
  (tasks_eq (rows m d _)).trans (rows_all m d _)
theorem dn_eq (d : Dev nD) : (bigSep Finset.univ fun c : Fin ((K (F := F)).nCore 0) => (P m).dn 0 d c)
    = iprop((xLoc d ↦[low]{fullShare} m (xLoc d)) ∗ (oLoc d ↦{fullShare} copied m d : sProp 𝕄)) :=
  (tasks_eq (rows m d _)).trans (rows_all m d _)

/-! ## The launch's ghost state -/

def u₀ : UU := (initOf (K (F := F)).hsCells (K (F := F)).hsToks, (initOf (cells (cfgP (F := F)) phinj) (launchToks (cfgP (F := F)) phinj), 1))

/-- What a TensorCore's pipeline starts from. -/
abbrev G (d : Dev nD) : sProp 𝕄 := iprop(cellsGhost (cfgP (F := F)) (EP (F := F)) 0 d ∗ toksInit (cfgP (F := F)) (EP (F := F)) 0 d)

theorem own_EP (a : URounds (GSem nD τ sig) Unit) :
    (BI.own (((Emb.inl : Emb (URounds (GSem nD τ sig) Unit) (URounds (GSem nD τ sig) Unit × Counters)).trans embR) a) : sProp 𝕄) = BI.own (EP (F := F) a) := rfl

theorem bigSep_pipes (Φ : Fin 1 → Dev nD → sProp 𝕄) :
    (bigSep Finset.univ fun d : Dev nD => bigSep Finset.univ fun p : Fin 1 => Φ p d) = bigSep Finset.univ fun d : Dev nD => Φ 0 d :=
  bigSep_congr fun _ _ => bigSep_univ_of_subsingleton (0 : Fin 1)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks)
    (initOf (cells (cfgP (F := F)) phinj) (launchToks (cfgP (F := F)) phinj), (1 : Counters))) $$ Hu
  icases H with ⟨HH, HR⟩
  ihave H := (own_pair_emb embR (initOf (cells (cfgP (F := F)) phinj) (launchToks (cfgP (F := F)) phinj)) (1 : Counters)) $$ HR
  icases H with ⟨HR, -⟩
  ihave HR := (Entails.of_eq (own_EP (F := F) _)) $$ HR
  ihave H := (Pipeline.fund_ghost (cfgP (F := F)) (EP (F := F)) phinj) $$ HR
  imod H
  icases H with ⟨Hg, Ht⟩
  ihave Hg := (Entails.of_eq (bigSep_pipes (F := F) fun p d => cellsGhost (cfgP (F := F)) (EP (F := F)) p d)) $$ Hg
  ihave Ht := (Entails.of_eq (bigSep_pipes (F := F) fun p d => toksInit (cfgP (F := F)) (EP (F := F)) p d)) $$ Ht
  imodintro
  isplitl [HH]; · iexact HH
  isplitl [Hg Ht]
  · rw [bigSep_sep']
    isplitl [Hg]
    · iexact Hg
    · iexact Ht
  rw [show (bigSep Finset.univ fun thr : Thread nD τ => bigSep Finset.univ fun q : Fin 1 => (P (F := F) m).x q thr) = (iprop(emp) : sProp 𝕄) from
    (bigSep_congr fun _ _ => bigSep_emp_const _).trans (bigSep_emp_const _)]
  iempintro

/-! ## The concatenation -/

abbrev catOp : HloOp τ sig (Elt F) := StableHlo.binary main_v0 main_v1 main_v2 (fun a b =>
  concatenate S8192x4096 0 [⟨S4608x4096, a⟩, ⟨S3584x4096, b⟩] concatenates_S4608x4096_S3584x4096_S8192x4096_d0)

/-- The upper rows and the lower, one after the other, are the argument. -/
theorem cat_eq (d : Dev nD) :
    concatenate S8192x4096 0 [⟨S4608x4096, top m d⟩, ⟨S3584x4096, copied m d⟩] concatenates_S4608x4096_S3584x4096_S8192x4096_d0 = m (xLoc d) := by
  funext j
  have hj : (j 0).val < 8192 := (j 0).isLt
  by_cases h : (j 0).val < 4608
  · refine (concatenate_pair_apply_left (0 : Fin S8192x4096.rank) (top m d) (copied m d) _ j rfl
      (fun | 0 => (⟨(j 0).val, h⟩ : Fin 4608) | 1 => (⟨(j 1).val, (j 1).isLt⟩ : Fin 4096)) fun b => ?_).trans ?_
    · match b with
      | 0 => rfl
      | 1 => rfl
    · refine congrArg (m (xLoc d)) (funext fun a => ?_)
      match a with
      | 0 => rfl
      | 1 => rfl
  · refine (concatenate_pair_apply_right (0 : Fin S8192x4096.rank) (top m d) (copied m d) _ j rfl rfl
      (fun | 0 => (⟨(j 0).val - 4608, by omega⟩ : Fin 3584) | 1 => (⟨(j 1).val, (j 1).isLt⟩ : Fin 4096)) (fun b hb => ?_) ?_).trans ?_
    · match b with
      | 0 => exact absurd rfl hb
      | 1 => rfl
    · exact Nat.sub_add_cancel (Nat.le_of_not_lt h)
    · refine congrArg (m (xLoc d)) (funext fun a => ?_)
      match a with
      | 0 => exact Fin.ext (Nat.sub_add_cancel (Nat.le_of_not_lt h))
      | 1 => rfl

/-! ## @main on the TensorCore -/

abbrev rLoc (d : Dev nD) : Loc nD τ sig := (SparseCore.T d).loc main_v2
abbrev uLoc (d : Dev nD) : Loc nD τ sig := (SparseCore.T d).loc main_v0

abbrev bx : DevRef τ sig := Proc.devRef .tc (main_arg0 : Ref sig .tc)
abbrev bu : DevRef τ sig := Proc.devRef .tc (main_v0 : Ref sig .tc)
abbrev bo : DevRef τ sig := Proc.devRef .tc (main_v1 : Ref sig .tc)
abbrev br : DevRef τ sig := Proc.devRef .tc (main_v2 : Ref sig .tc)

theorem arrays_eq (d : Dev nD) (W : (b : Ref sig .tc) → Buf (Elt F) ((d.tc : Thread nD τ).loc b)) :
    (unscopedBufs d W : sProp 𝕄)
      = iprop((xLoc d ↦{fullShare} W main_arg0) ∗ (uLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The concatenation's three arrays. -/
theorem held_cat (d : Dev nD) (W : Valuation τ sig (Elt F)) :
    (held (T d) {bu, bo, br} W : sProp 𝕄) = iprop((uLoc d ↦{fullShare} W bu) ∗ (oLoc d ↦{fullShare} W bo) ∗ rLoc d ↦{fullShare} W br) := by
  unfold held
  rw [SparseCore.bigSep_insert' (by decide), SparseCore.bigSep_insert' (by decide), bigSep_singleton]

/-- The arrays' contents at the concatenation. -/
def V₁ (d : Dev nD) : Valuation τ sig (Elt F) := Function.update (Function.update (fun b => m (d, b)) bu (top m d)) bo (copied m d)

theorem V₁_u (d : Dev nD) : V₁ m d bu = top m d :=
  (Function.update_of_ne (show bu ≠ bo by decide) _ _).trans (Function.update_self _ _ _)
theorem V₁_o (d : Dev nD) : V₁ m d bo = copied m d := Function.update_self _ _ _
theorem V₁_r (d : Dev nD) : V₁ m d br = m (rLoc d) :=
  (Function.update_of_ne (show br ≠ bo by decide) _ _).trans (Function.update_of_ne (show br ≠ bu by decide) _ _)

theorem cat_result (d : Dev nD) : (catOp (F := F)).result (V₁ m d) br = m (xLoc d) :=
  (StableHlo.binary_result _ _ _ _ _ _ _ _).trans (by rw [V₁_u, V₁_o]; exact cat_eq m d)

theorem cat_bufs : (catOp (F := F)).bufs ⊆ {bu, bo, br} := show ({bu, bo, br} : Finset (DevRef τ sig)) ⊆ {bu, bo, br} by decide

/-- What @main leaves: the argument as it was, and the result at the argument's contents. -/
abbrev FIN (d : Dev nD) : sProp 𝕄 := iprop((xLoc d ↦{fullShare} m (xLoc d)) ∗ (rLoc d ↦{fullShare} (m (xLoc d) : Buf (Elt F) (rLoc d))))

theorem region_pre (d : Dev nD) : (region m).pre d
    = iprop((xLoc d ↦{fullShare} m (xLoc d)) ∗ (uLoc d ↦{fullShare} m (uLoc d)) ∗ (debt d : sProp 𝕄)) := rfl
theorem region_post (d : Dev nD) : (region m).post d
    = iprop((xLoc d ↦{fullShare} m (xLoc d)) ∗ (uLoc d ↦{fullShare} top m d) ∗ (debt d : sProp 𝕄)) := rfl

theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [arrays_eq]
  simp only [main, wp_bind, wp_pure]
  iintro ⟨#Hctx, Hst, ⟨Hb, ⟨Hx, Hu, Ho, Hr⟩, Hts, -⟩, Hg, Ht⟩
  ihave Hla := (SparseCore.Cfg.ctx_levAts κ) $$ Hctx
  ihave Hst' := (Entails.of_eq (show (K (F := F)).tcSt EH d 0 = iprop(debt d ∗ _) from rfl)) $$ Hst
  icases Hst' with ⟨HO, Hst⟩
  -- the upper rows
  iapply (wp_wand_r frame _ _)
  isplitl [Hb Hx Hu HO Hla Hg Ht]
  · iapply (region_wp m d) $$ [Hb Hx Hu HO Hla Hg Ht]
    isplitl [Hb]; · iexact Hb
    isplitl [Hx Hu HO]
    · rw [region_pre]
      isplitl [Hx]; · iexact Hx
      isplitl [Hu]; · iexact Hu
      iexact HO
    isplitl [Hla]; · iexact Hla
    isplitl [Hg] <;> iassumption
  rw [region_post]
  iintro %_ ⟨Hb, Hx, Hu, HO⟩
  -- the lower rows, dealt over the tasks and back
  ihave Hx' := (pointsTo_split_subset (ℓ := xLoc d) (f := m (xLoc d)) (Finset.subset_univ low)).1 $$ Hx
  icases Hx' with ⟨Hlow, Hhigh⟩
  iapply ((K (F := F)).wp_run (D (F := F)) 𝒱 (EH := EH) (P := P m) κ d 0) $$ [Hst HO Hlow Ho Hhigh Hu Hr Hb Hts]
  isplitr; · iexact Hctx
  isplitl [Hst HO]
  · iapply (Entails.of_eq (show iprop(debt d ∗ _) = (K (F := F)).tcSt EH d 0 from rfl)) $$ [HO Hst]
    isplitl [HO] <;> iassumption
  isplitl [Hlow Ho]
  · rw [st_eq]
    isplitl [Hlow] <;> iassumption
  iintro ⟨Hst, Hdn⟩
  ihave Hdn' := (Entails.of_eq (dn_eq m d)) $$ Hdn
  icases Hdn' with ⟨Hlow, Ho⟩
  ihave Hx := (pointsTo_split_subset (ℓ := xLoc d) (f := m (xLoc d)) (Finset.subset_univ low)).2 $$ [Hlow Hhigh]
  · isplitl [Hlow] <;> iassumption
  -- the two joined
  iapply (wp_hlo_within 𝒱 (SparseCore.T d) none Set.univ (op := catOp) (S := {bu, bo, br}) cat_bufs (V := V₁ m d)) $$ [Hb Hu Ho Hr]
  · isplitl [Hb]; · iexact Hb
    rw [held_cat, V₁_u, V₁_o, V₁_r]
    isplitl [Hu]; · iexact Hu
    isplitl [Ho] <;> iassumption
  iintro ⟨Hb, Hheld⟩
  ihave Hh := (Entails.of_eq (held_cat (F := F) d _)) $$ Hheld
  icases Hh with ⟨-, -, Hr⟩
  rw [cat_result]
  rw [wp_ret]; imodintro; imodintro
  isplitl [Hst]; · iexact Hst
  isplitr [Hb Hts]
  · isplitl [Hx] <;> iassumption
  isplitl [Hb] <;> iassumption

/-! ## The run -/

def fq (d : Dev nD) (s' : Phys nD τ sig (Elt F)) : Prop :=
  s'.mem.mem (rLoc d) = (m (xLoc d) : Buf (Elt F) (rLoc d)) ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hx, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (SI_pointsTo_agree (st := s') (ℓ := rLoc d) (I := Finset.univ) (q := fullShare) (f := (m (xLoc d) : Buf (Elt F) (rLoc d)))) $$ [HSI Hr]
  · isplitl [HSI] <;> iassumption
  icases H with %hr
  ipureintro; exact ⟨funext fun i => hr i (Finset.mem_univ i), funext fun i => hx i (Finset.mem_univ i)⟩

/-- The result holds the argument, the argument is untouched, every semaphore is back at zero. -/
def QC : PUnit × MemSt nD τ sig (Elt F) → Prop := fun r =>
  (∀ c : Dev nD, r.2.mem (rLoc c) = (m (xLoc c) : Buf (Elt F) (rLoc c)) ∧ r.2.mem (xLoc c) = m (xLoc c)) ∧ r.2.sem = fun _ => 0

theorem run_main [∀ e, Nonempty (Elt F e)] : θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.Proof.Kernel

end
-- ==== Proof.Same.lean ====
/-
  The program read at the ideal instance is the same text as the program as printed: its kernels, its call's
  targets and its threads are the first's, so the first's run is its run.
-/
module

public import proofs.«01_k».proof.Proof.Launch
public import proofs.«01_k».proof.Proof.Gen.KernelIdeal

@[expose] public section

noncomputable section

namespace Cert.Proof.Same

open Idealize.ShloMosaic Idealize.SL.Sem

variable {F : FTy → Type} [FloatOps F]

/-- The labels' meanings agree on the TensorCore, on a sequencer, on a vector subcore. -/
theorem defs₀_tc (l : Cert.Kernel.Λ₀.Label) (a : Cert.Kernel.Λ₀.Args l) : Cert.KernelIdeal.defs₀ (F := F) .tc l a = Cert.Kernel.defs₀ (F := F) .tc l a := by
  match l, a with
  | 0, (_, _) => rfl
  | 1, _ => rfl

theorem defs₀_scScalar (c) (l : Cert.Kernel.Λ₀.Label) (a : Cert.Kernel.Λ₀.Args l) :
    Cert.KernelIdeal.defs₀ (F := F) (.scScalar c) l a = Cert.Kernel.defs₀ (F := F) (.scScalar c) l a := by
  match l, a with
  | 0, (_, _) => rfl
  | 1, _ => rfl

theorem defs₀_scVector (c s) (l : Cert.Kernel.Λ₀.Label) (a : Cert.Kernel.Λ₀.Args l) :
    Cert.KernelIdeal.defs₀ (F := F) (.scVector c s) l a = Cert.Kernel.defs₀ (F := F) (.scVector c s) l a := by
  match l, a with
  | 0, (_, _) => rfl
  | 1, _ => rfl

theorem defs₀_eq : Cert.KernelIdeal.defs₀ (F := F) = Cert.Kernel.defs₀ (F := F) := by
  funext p l a
  match p with
  | .tc => exact defs₀_tc l a
  | .scScalar c => exact defs₀_scScalar c l a
  | .scVector c s => exact defs₀_scVector c s l a

theorem defs_eq : Cert.KernelIdeal.defs (F := F) = Cert.Kernel.defs (F := F) :=
  congrArg (fun D => (Cert.Kernel.sc (F := F)).defs (Pipeline.defs Cert.Kernel.pcfgs D)) (defs₀_eq (F := F))

theorem threads_eq : Cert.KernelIdeal.threads (F := F) = Cert.Kernel.threads (F := F) := rfl

/-- The run, of the program read at the ideal instance. -/
theorem run_ideal [∀ e, Nonempty (Elt F e)]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (Cert.KernelIdeal.threads (F := F)) ⟨m, fun _ => 0, ρ⟩ (Cert.Proof.Kernel.QC m) := by
  rw [defs_eq, threads_eq]
  exact Cert.Proof.Kernel.run_main m ρ

end Cert.Proof.Same

end
-- ==== Proof.Ref.lean ====
/-
  The reference: it returns its argument, so it runs and changes nothing.
-/
module

public import proofs.«01_k».proof.Proof.Gen.ReferenceIdeal
public import Idealize.ShloMosaic.Lib.StableHlo.RunHlo
public import Idealize.ShloMosaic.Lib.Quiescent

@[expose] public section

noncomputable section

namespace Cert.Proof.Ref

open Cert.ReferenceIdeal Cert.ReferenceIdeal.Gen
open Idealize.ShloMosaic Idealize.SL.Sem

variable {F : FTy → Type} [FloatOps F]

/-- The reference runs from any memory, its argument is untouched, and every semaphore (it has none) is at zero. -/
theorem run_ref (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)) ∧ r.2.sem = fun _ => 0 :=
  θ_run_mono
    (StableHlo.run_hlo (defs (F := F)) (main (F := F)) (ops := []) (fun _ => StableHlo.IsSeq.nil) (by decide) (by decide)
      trivial (fun _ h => absurd h List.not_mem_nil) m ρ)
    fun r h => ⟨fun c => h c main_arg0, sem_eq_zero_of_no_sems rfl r.2⟩

end Cert.Proof.Ref

end
-- ==== Proof.lean ====
/-
  The five claims, from three runs: the kernel's (Launch), the same read over the extended reals (Same), the
  reference's (Ref).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Launch
public import proofs.«01_k».proof.Proof.Same
public import proofs.«01_k».proof.Proof.Ref
public import Idealize.ShloMosaic.Adequacy
public import Idealize.ShloMosaic.Init

@[expose] public section

noncomputable section

namespace Cert.Proof

open Idealize.ShloMosaic Idealize.SL.Sem Cert.Kernel

/-- The kernel as printed: its run with the result dropped. -/
theorem frame_kernel : Cert.quiescent_Kernel := fun m ρ _ =>
  θ_run_mono (Cert.Proof.Kernel.run_main (F := Bits) m ρ) fun _ h => ⟨fun c => (h.1 c).2, h.2⟩

/-- The kernel over the extended reals: the same. -/
theorem frame_ideal : Cert.quiescent_KernelIdeal := fun m ρ _ =>
  θ_run_mono (Cert.Proof.Same.run_ideal (F := Ideal) m ρ) fun _ h => ⟨fun c => (h.1 c).2, h.2⟩

theorem frame_reference : Cert.quiescent_ReferenceIdeal := fun m ρ _ => Cert.Proof.Ref.run_ref (F := Ideal) m ρ

/-- Kernel and reference both end with the argument as their result. -/
theorem values : Cert.algebraic_KernelIdeal_ReferenceIdeal := fun m g m' g' _ hm =>
  ⟨fun c => m ((c.tc : Thread Cert.KernelIdeal.nD Cert.KernelIdeal.τ).loc Cert.KernelIdeal.main_arg0),
    θ_run_mono (Cert.Proof.Same.run_ideal (F := Ideal) m g) fun _ h c => h.1 c,
    θ_run_mono (Cert.Proof.Ref.run_ref (F := Ideal) m' g') fun _ h c => ⟨(h.1 c).trans (hm c), h.1 c⟩⟩

theorem claim : Cert.Claim := ⟨Cert.Kernel.Gen.facts, Cert.KernelIdeal.Gen.facts, Cert.ReferenceIdeal.Gen.facts,
  frame_kernel, frame_ideal, frame_reference, trivial, values⟩

end Cert.Proof

end
